-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_opposite_infinities [hPre_no_opposite_infinities : Cert.Pre_no_opposite_infinities.Facts] (m : (ℓ : Loc Cert.KernelIdeal.nD Cert.KernelIdeal.τ Cert.KernelIdeal.sig) → Buf (Elt Ideal) ℓ) : Prop :=
  ∀ c : Dev Cert.KernelIdeal.nD,
    (Cert.Pre_no_opposite_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_opposite_infinities [hPre_no_opposite_infinities : Cert.Pre_no_opposite_infinities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_opposite_infinities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_no_opposite_infinities [hKernelIdeal : Cert.KernelIdeal.Facts] [hPre_no_opposite_infinities : Cert.Pre_no_opposite_infinities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_opposite_infinities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_no_opposite_infinities [hReferenceIdeal : Cert.ReferenceIdeal.Facts] [hPre_no_opposite_infinities : Cert.Pre_no_opposite_infinities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_opposite_infinities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal_pre_no_opposite_infinities [hKernelIdeal : Cert.KernelIdeal.Facts] [hReferenceIdeal : Cert.ReferenceIdeal.Facts] [hPre_no_opposite_infinities : Cert.Pre_no_opposite_infinities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_opposite_infinities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_no_opposite_infinities : Cert.Pre_no_opposite_infinities.Facts),
    quiescent_Kernel (hKernel := hKernel)
    ∧ quiescent_KernelIdeal (hKernelIdeal := hKernelIdeal)
    ∧ quiescent_KernelIdeal_pre_no_opposite_infinities (hKernelIdeal := hKernelIdeal) (hPre_no_opposite_infinities := hPre_no_opposite_infinities)
    ∧ quiescent_ReferenceIdeal (hReferenceIdeal := hReferenceIdeal)
    ∧ quiescent_ReferenceIdeal_pre_no_opposite_infinities (hReferenceIdeal := hReferenceIdeal) (hPre_no_opposite_infinities := hPre_no_opposite_infinities)
    ∧ preserves_Kernel_KernelIdeal
    ∧ algebraic_KernelIdeal_ReferenceIdeal_pre_no_opposite_infinities (hKernelIdeal := hKernelIdeal) (hReferenceIdeal := hReferenceIdeal) (hPre_no_opposite_infinities := hPre_no_opposite_infinities)
-- ==== Pre_no_opposite_infinities.lean ====
abbrev S10000x128 : Shape := ⟨2, ![10000, 128]⟩
abbrev S1000x128 : Shape := ⟨2, ![1000, 128]⟩
abbrev S384x256 : Shape := ⟨2, ![384, 256]⟩
abbrev S384x128 : Shape := ⟨2, ![384, 128]⟩
abbrev S384 : Shape := ⟨1, ![384]⟩
abbrev S320000 : Shape := ⟨1, ![320000]⟩
abbrev S256x128 : Shape := ⟨2, ![256, 128]⟩
abbrev S_ : Shape := ⟨0, ![]⟩

class Facts : Prop where
  slices_S384x128_S256x128_0_0 : S384x128.Slices ![0, 0] S256x128
  bcast_S_S256x128 : S_.BroadcastsInDim S256x128 (![] : Fin 0 → Fin S256x128.rank)

variable [Facts]

def fn {F : FTy → Type} [FloatOps F] (main_arg0 : FVec F S10000x128 .f32) (main_arg1 : FVec F S1000x128 .f32) (main_arg2 : FVec F S384x256 .f32) (main_arg3 : FVec F S384x128 .f32) (main_arg4 : FVec F S384 .f32) (main_arg5 : FVec F S384 .f32) (main_arg6 : FVec F S384x128 .f32) (main_arg7 : FVec F S384x128 .f32) (main_arg8 : FVec F S384 .f32) (main_arg9 : FVec F S384 .f32) (main_arg10 : IVec S320000 32) (main_arg11 : IVec S320000 32) : IVec S256x128 1 :=
  let main_v0 : FVec F S256x128 .f32 := (extractStridedSlice S256x128 ![0, 0] · slices_S384x128_S256x128_0_0) main_arg6
  let main_v1 : FVec F S256x128 .f32 := (extractStridedSlice S256x128 ![0, 0] · slices_S384x128_S256x128_0_0) main_arg7
  let main_v2 : FVec F S256x128 .f32 := Host.absf main_v0
  let main_cst : FVec F S_ .f32 := constant S_ .f32 0x7F800000#32
  let main_v3 : FVec F S256x128 .f32 := broadcastInDim S256x128 ![] bcast_S_S256x128 main_cst
  let main_v4 : IVec S256x128 1 := cmpf .olt main_v2 main_v3
  let main_v5 : FVec F S256x128 .f32 := Host.negf main_v1
  let main_v6 : IVec S256x128 1 := cmpf .une main_v0 main_v5
  let main_v7 : IVec S256x128 1 := ori main_v4 main_v6
  main_v7
-- ==== Kernel.lean ====
abbrev S10000x128 : Shape := ⟨2, ![10000, 128]⟩
abbrev S1000x128 : Shape := ⟨2, ![1000, 128]⟩
abbrev S384x256 : Shape := ⟨2, ![384, 256]⟩
abbrev S384x128 : Shape := ⟨2, ![384, 128]⟩
abbrev S384 : Shape := ⟨1, ![384]⟩
abbrev S320000 : Shape := ⟨1, ![320000]⟩
abbrev S5000x128 : Shape := ⟨2, ![5000, 128]⟩
abbrev S128x512 : Shape := ⟨2, ![128, 512]⟩
abbrev S1x512 : Shape := ⟨2, ![1, 512]⟩
abbrev S128x128 : Shape := ⟨2, ![128, 128]⟩
abbrev S256x128 : Shape := ⟨2, ![256, 128]⟩
abbrev S128x256 : Shape := ⟨2, ![128, 256]⟩
abbrev S1x384 : Shape := ⟨2, ![1, 384]⟩
abbrev S1x256 : Shape := ⟨2, ![1, 256]⟩
abbrev S1x128 : Shape := ⟨2, ![1, 128]⟩
abbrev S5000x512 : Shape := ⟨2, ![5000, 512]⟩

abbrev nBuf : Space → Nat
  | .hbm => 13
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S1000x128, .f32⟩
  | .hbm, ⟨2, _⟩ => ⟨S384x256, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S320000, .i32⟩
  | .hbm, ⟨11, _⟩ => ⟨S320000, .i32⟩
  | .hbm, ⟨12, _⟩ => ⟨S10000x128, .f32⟩
  | .local _ .vmem, ⟨0, _⟩ => ⟨S5000x128, .f32⟩
  | .local _ .vmem, ⟨1, _⟩ => ⟨S5000x128, .f32⟩
  | .local _ .vmem, ⟨2, _⟩ => ⟨S384x128, .f32⟩
  | .local _ .vmem, ⟨3, _⟩ => ⟨S384x128, .f32⟩
  | .local _ .vmem, ⟨4, _⟩ => ⟨S384, .f32⟩
  | .local _ .vmem, ⟨5, _⟩ => ⟨S384, .f32⟩
  | .local _ .vmem, ⟨6, _⟩ => ⟨S5000x128, .f32⟩
  | .local _ .vmem, ⟨7, _⟩ => ⟨S5000x128, .f32⟩
  | .local _ .vmem, ⟨8, _⟩ => ⟨S128x512, .f32⟩
  | .local _ .vmem, ⟨9, _⟩ => ⟨S1x512, .f32⟩
  | .local _ .vmem, ⟨10, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S10000x128 : Shape := ⟨2, ![10000, 128]⟩
abbrev S1000x128 : Shape := ⟨2, ![1000, 128]⟩
abbrev S384x256 : Shape := ⟨2, ![384, 256]⟩
abbrev S384x128 : Shape := ⟨2, ![384, 128]⟩
abbrev S384 : Shape := ⟨1, ![384]⟩
abbrev S320000 : Shape := ⟨1, ![320000]⟩
abbrev S_ : Shape := ⟨0, ![]⟩
abbrev S10000 : Shape := ⟨1, ![10000]⟩
abbrev S10000x1 : Shape := ⟨2, ![10000, 1]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S1000 : Shape := ⟨1, ![1000]⟩
abbrev S1000x1 : Shape := ⟨2, ![1000, 1]⟩
abbrev S1000x256 : Shape := ⟨2, ![1000, 256]⟩
abbrev S256x384 : Shape := ⟨2, ![256, 384]⟩
abbrev S1000x384 : Shape := ⟨2, ![1000, 384]⟩
abbrev S1x384 : Shape := ⟨2, ![1, 384]⟩
abbrev S128x384 : Shape := ⟨2, ![128, 384]⟩
abbrev S10000x384 : Shape := ⟨2, ![10000, 384]⟩

abbrev nBuf : Space → Nat
  | .hbm => 158
  | .vmem => 0
  | .smem => 0
  | _ => 0

abbrev hbmTy0_0 (i : Nat) : BufTy := match i % 128 with
  | 0 => ⟨S10000x128, .f32⟩
  | 1 => ⟨S1000x128, .f32⟩
  | 2 => ⟨S384x256, .f32⟩
  | 3 => ⟨S384x128, .f32⟩
  | 4 => ⟨S384, .f32⟩
  | 5 => ⟨S384, .f32⟩
  | 6 => ⟨S384x128, .f32⟩
  | 7 => ⟨S384x128, .f32⟩
  | 8 => ⟨S384, .f32⟩
  | 9 => ⟨S384, .f32⟩
  | 10 => ⟨S320000, .i32⟩
  | 11 => ⟨S320000, .i32⟩
  | 12 => ⟨S10000x128, .f32⟩
  | 13 => ⟨S_, .f32⟩
  | 14 => ⟨S10000, .f32⟩
  | 15 => ⟨S10000x1, .f32⟩
  | 16 => ⟨S10000x1, .f32⟩
  | 17 => ⟨S_, .f32⟩
  | 18 => ⟨S10000x1, .f32⟩
  | 19 => ⟨S10000x1, .f32⟩
  | 20 => ⟨S10000x128, .f32⟩
  | 21 => ⟨S10000x128, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S1, .i32⟩
  | 31 => ⟨S_, .i32⟩
  | 32 => ⟨S320000x1, .i32⟩
  | 33 => ⟨S320000x1, .i1⟩
  | 34 => ⟨S1x1, .i32⟩
  | 35 => ⟨S320000x1, .i32⟩
  | 36 => ⟨S320000x1, .i1⟩
  | 37 => ⟨S320000x1, .i1⟩
  | 38 => ⟨S_, .i1⟩
  | 39 => ⟨S320000, .i1⟩
  | 40 => ⟨S320000x128, .f32⟩
  | 41 => ⟨S320000x128, .i1⟩
  | 42 => ⟨S_, .f32⟩
  | 43 => ⟨S320000x128, .f32⟩
  | 44 => ⟨S320000x128, .f32⟩
  | 45 => ⟨S_, .f32⟩
  | 46 => ⟨S1000x128, .f32⟩
  | 47 => ⟨S320000x1, .i32⟩
  | 48 => ⟨S1000x128, .f32⟩
  | 49 => ⟨S_, .f32⟩
  | 50 => ⟨S320000, .f32⟩
  | 51 => ⟨S_, .f32⟩
  | 52 => ⟨S1000, .f32⟩
  | 53 => ⟨S320000x1, .i32⟩
  | 54 => ⟨S1000, .f32⟩
  | 55 => ⟨S_, .f32⟩
  | 56 => ⟨S1000, .f32⟩
  | 57 => ⟨S1000, .f32⟩
  | 58 => ⟨S1000x1, .f32⟩
  | 59 => ⟨S1000x128, .f32⟩
  | 60 => ⟨S1000x128, .f32⟩
  | 61 => ⟨S1000x256, .f32⟩
  | 62 => ⟨S256x384, .f32⟩
  | 63 => ⟨S1000x384, .f32⟩
  | 64 => ⟨S1x384, .f32⟩
  | 65 => ⟨S1000x384, .f32⟩
  | 66 => ⟨S1000x384, .f32⟩
  | 67 => ⟨S128x384, .f32⟩
  | 68 => ⟨S1000x384, .f32⟩
  | 69 => ⟨S1x384, .f32⟩
  | 70 => ⟨S1000x384, .f32⟩
  | 71 => ⟨S1000x384, .f32⟩
  | 72 => ⟨S1000x128, .f32⟩
  | 73 => ⟨S1000x128, .f32⟩
  | 74 => ⟨S1000x128, .f32⟩
  | 75 => ⟨S1000x128, .f32⟩
  | 76 => ⟨S1000x128, .f32⟩
  | 77 => ⟨S1000x128, .f32⟩
  | 78 => ⟨S1000x128, .f32⟩
  | 79 => ⟨S1000x128, .f32⟩
  | 80 => ⟨S1000x128, .f32⟩
  | 81 => ⟨S_, .f32⟩
  | 82 => ⟨S1000x128, .f32⟩
  | 83 => ⟨S1000x128, .f32⟩
  | 84 => ⟨S_, .f32⟩
  | 85 => ⟨S1000x128, .f32⟩
  | 86 => ⟨S1000x128, .f32⟩
  | 87 => ⟨S1000x128, .f32⟩
  | 88 => ⟨S1000x128, .f32⟩
  | 89 => ⟨S1000x128, .f32⟩
  | 90 => ⟨S_, .f32⟩
  | 91 => ⟨S1000x128, .f32⟩
  | 92 => ⟨S1000x128, .f32⟩
  | 93 => ⟨S_, .f32⟩
  | 94 => ⟨S1000x128, .f32⟩
  | 95 => ⟨S1000x128, .f32⟩
  | 96 => ⟨S1000x128, .f32⟩
  | 97 => ⟨S1000x128, .f32⟩
  | 98 => ⟨S1000x128, .f32⟩
  | 99 => ⟨S_, .f32⟩
  | 100 => ⟨S1000x128, .f32⟩
  | 101 => ⟨S1000x128, .f32⟩
  | 102 => ⟨S1000x128, .f32⟩
  | 103 => ⟨S1000x128, .f32⟩
  | 104 => ⟨S1000x128, .f32⟩
  | 105 => ⟨S1000x128, .f32⟩
  | 106 => ⟨S_, .f32⟩
  | 107 => ⟨S1000, .f32⟩
  | 108 => ⟨S1000x1, .f32⟩
  | 109 => ⟨S1000x1, .f32⟩
  | 110 => ⟨S_, .f32⟩
  | 111 => ⟨S1000x1, .f32⟩
  | 112 => ⟨S1000x1, .f32⟩
  | 113 => ⟨S1000x128, .f32⟩
  | 114 => ⟨S1000x128, .f32⟩
  | 115 => ⟨S128x384, .f32⟩
  | 116 => ⟨S10000x384, .f32⟩
  | 117 => ⟨S1x384, .f32⟩
  | 118 => ⟨S10000x384, .f32⟩
  | 119 => ⟨S10000x384, .f32⟩
  | 120 => ⟨S128x384, .f32⟩
  | 121 => ⟨S10000x384, .f32⟩
  | 122 => ⟨S1x384, .f32⟩
  | 123 => ⟨S10000x384, .f32⟩
  | 124 => ⟨S10000x384, .f32⟩
  | 125 => ⟨S10000x128, .f32⟩
  | 126 => ⟨S10000x128, .f32⟩
  | 127 => ⟨S10000x128, .f32⟩
  | _ => ⟨S10000x128, .f32⟩

abbrev hbmTy0_1 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S_, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S10000x128, .f32⟩
  | 22 => ⟨S10000x128, .f32⟩
  | 23 => ⟨S10000x128, .f32⟩
  | 24 => ⟨S_, .f32⟩
  | 25 => ⟨S10000x128, .f32⟩
  | 26 => ⟨S10000x128, .f32⟩
  | 27 => ⟨S10000x128, .f32⟩
  | 28 => ⟨S10000x128, .f32⟩
  | 29 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_cst_3 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_4 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_5 : Ref sig .tc := ⟨.hbm, 81, rfl⟩
abbrev main_v41 : Ref sig .tc := ⟨.hbm, 82, rfl⟩
abbrev main_v42 : Ref sig .tc := ⟨.hbm, 83, rfl⟩
abbrev main_cst_6 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_7 : Ref sig .tc := ⟨.hbm, 90, rfl⟩
abbrev main_v48 : Ref sig .tc := ⟨.hbm, 91, rfl⟩
abbrev main_v49 : Ref sig .tc := ⟨.hbm, 92, rfl⟩
abbrev main_cst_8 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_9 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_10 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_11 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_12 : Ref sig .tc := ⟨.hbm, 134, rfl⟩
abbrev main_v87 : Ref sig .tc := ⟨.hbm, 135, rfl⟩
abbrev main_v88 : Ref sig .tc := ⟨.hbm, 136, rfl⟩
abbrev main_cst_13 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_14 : Ref sig .tc := ⟨.hbm, 143, rfl⟩
abbrev main_v94 : Ref sig .tc := ⟨.hbm, 144, rfl⟩
abbrev main_v95 : Ref sig .tc := ⟨.hbm, 145, rfl⟩
abbrev main_cst_15 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_16 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩

abbrev nD : Nat := 1
abbrev τ : Topo := Topo.v7x

variable {F : FTy → Type} [FloatOps F]
-- ==== Proof.Consts.lean ====
/- The float constants that the two programs and the precondition spell, as the extended reals they stand for, and the
   cutoff of the normalisation. -/
module

public import Idealize.ShloMosaic.PureOps.Ideal

@[expose] public section

noncomputable section

namespace Cert.Consts

open Idealize.ShloMosaic

/-- The cutoff under which a row's length is not divided by: the float nearest `1e-12`, exactly. -/
def eps : ℝ := 9223372 / 2 ^ 63

/-- The cutoff is positive. -/
theorem eps_pos : 0 < eps := by unfold eps; norm_num

/-- The pattern of one half stands for one half. -/
theorem ofBits_half : Ideal.ofBits .f32 0x3F000000#32 = ((1 / 2 : ℝ) : EReal) := by
  simp [Ideal.ofBits, Ideal.ieee, -EReal.coe_mul]; norm_num

/-- The reference's pattern for `1e-12` stands for the cutoff. -/
theorem ofBits_eps : Ideal.ofBits .f32 0x2B8CBCCC#32 = ((eps : ℝ) : EReal) := by
  unfold eps
  simp [Ideal.ofBits, Ideal.ieee, -EReal.coe_mul]; norm_num

/-- The pattern of the float infinity stands for the top extended real. -/
theorem ofBits_inf : Ideal.ofBits .f32 0x7F800000#32 = (⊤ : EReal) := by
  simp [Ideal.ofBits, Ideal.ieee]

/-- The value that the kernel's named constant stands for is the square of the cutoff. -/
theorem epsSq_eq : ((5316911940649 / 5316911983139663491615228241121378304 : ℝ)) = eps * eps := by
  unfold eps; norm_num

end Cert.Consts

end
-- ==== Proof.Algebra.lean ====
/- The mathematics of the claim, for one element of the result and over the extended reals, with no program in sight:
   one row `x` of the embedding, the two weight matrices `W` and `U`, the two bias vectors `p` and `q`, one column `d`.
   `gruCell` is what the reference computes there, `fusedCell` what the kernel computes there, and `fusedCell_eq` says
   they are the same number wherever the kernel's sums of weights never meet two opposite infinities. -/
module

public import proofs.«01_k».proof.Proof.Consts

@[expose] public section

noncomputable section

namespace Cert.Algebra

open Idealize.ShloMosaic Cert.Consts
open scoped BigOperators

/-! ## The two computations of one element -/

/-- One entry of the normalised row, the reference's way: the entry over the row's length, the length cut off below. -/
def unitRow (x : Fin 128 → EReal) (k : Fin 128) : EReal :=
  Ideal.div (x k) (max (Ideal.sqrt (∑ l, x l * x l)) (eps : EReal))

/-- One entry of the normalised row, the kernel's way: the entry times the reciprocal root of the cut-off squared length. -/
def scaledRow (x : Fin 128 → EReal) (k : Fin 128) : EReal :=
  x k * Ideal.rsqrt (max (∑ l, x l * x l) ((eps * eps : ℝ) : EReal))

/-- A row of a linear layer: a product with one row of weights, plus a bias. -/
def layer (h : Fin 128 → EReal) (w : Fin 128 → EReal) (p : EReal) : EReal := (∑ k, h k * w k) + p

/-- The logistic function, as the reference spells it. -/
def sigma (a : EReal) : EReal := Ideal.div 1 (1 + Ideal.exp (-a))

/-- The logistic function of twice its argument, as the kernel spells it. -/
def halfTanh (a : EReal) : EReal := ((1 / 2 : ℝ) : EReal) * (1 + Ideal.tanh a)

/-- The mean of two numbers as the kernel spells it: half of their sum. -/
def half (a b : EReal) : EReal := ((1 / 2 : ℝ) : EReal) * (a + b)

/-- Row `d` of the reset gate's part of a stacked weight matrix. -/
abbrev rowR (d : Fin 128) : Fin 384 := ⟨d.val, by omega⟩
/-- Row `d` of the update gate's part. -/
abbrev rowZ (d : Fin 128) : Fin 384 := ⟨128 + d.val, by omega⟩
/-- Row `d` of the candidate's part. -/
abbrev rowN (d : Fin 128) : Fin 384 := ⟨256 + d.val, by omega⟩

/-- Element `d` of the reference's GRU step on one row. -/
def gruCell (x : Fin 128 → EReal) (W U : Fin 384 → Fin 128 → EReal) (p q : Fin 384 → EReal) (d : Fin 128) : EReal :=
  (1 - sigma (layer (unitRow x) (W (rowZ d)) (p (rowZ d)) + layer (unitRow x) (U (rowZ d)) (q (rowZ d))))
      * Ideal.tanh (layer (unitRow x) (W (rowN d)) (p (rowN d))
          + sigma (layer (unitRow x) (W (rowR d)) (p (rowR d)) + layer (unitRow x) (U (rowR d)) (q (rowR d)))
            * layer (unitRow x) (U (rowN d)) (q (rowN d)))
    + sigma (layer (unitRow x) (W (rowZ d)) (p (rowZ d)) + layer (unitRow x) (U (rowZ d)) (q (rowZ d))) * unitRow x d

/-- The last step of the kernel on one element: from the four columns of its one product (reset gate, update gate, the
    candidate's input part and its hidden part) and the old value to the new value. -/
def fusedStep (ar az ni nh h : EReal) : EReal :=
  Ideal.tanh (ni + halfTanh ar * nh) + halfTanh az * (h - Ideal.tanh (ni + halfTanh ar * nh))

/-- Element `d` of the kernel's GRU step on one row: the two gates from halved sums of weights and of biases. -/
def fusedCell (x : Fin 128 → EReal) (W U : Fin 384 → Fin 128 → EReal) (p q : Fin 384 → EReal) (d : Fin 128) : EReal :=
  fusedStep (layer (scaledRow x) (fun k => half (W (rowR d) k) (U (rowR d) k)) (half (p (rowR d)) (q (rowR d))))
    (layer (scaledRow x) (fun k => half (W (rowZ d) k) (U (rowZ d) k)) (half (p (rowZ d)) (q (rowZ d))))
    (layer (scaledRow x) (W (rowN d)) (p (rowN d))) (layer (scaledRow x) (U (rowN d)) (q (rowN d))) (scaledRow x d)

/-! ## The normalised row -/

/-- A square is not negative. -/
theorem mul_self_nonneg (a : EReal) : 0 ≤ a * a := by
  induction a with
  | bot => simp
  | top => simp
  | coe r => rw [← EReal.coe_mul]; exact_mod_cast _root_.mul_self_nonneg r

/-- A number whose square is at most a real number is a real number. -/
theorem real_of_mul_self_le {a : EReal} {s : ℝ} (h : a * a ≤ (s : EReal)) : ∃ r : ℝ, a = (r : EReal) := by
  induction a with
  | bot => simp at h
  | top => simp at h
  | coe r => exact ⟨r, rfl⟩

/-- Dividing by the cut-off root is multiplying with the reciprocal root of the number cut off at the square. -/
theorem mul_rsqrt_eq_div (x : EReal) {s : EReal} (hs : 0 ≤ s) {e : ℝ} (he : 0 < e) :
    x * Ideal.rsqrt (max s ((e * e : ℝ) : EReal)) = Ideal.div x (max (Ideal.sqrt s) (e : EReal)) := by
  induction s with
  | bot => simp at hs
  | top => simp [Ideal.div]
  | coe s =>
    have hs' : (0 : ℝ) ≤ s := by exact_mod_cast hs
    have hmax : 0 < max s (e * e) := lt_max_of_lt_right (mul_pos he he)
    have hroot : Real.sqrt (max s (e * e)) = max (Real.sqrt s) e := by
      rw [Real.sqrt_monotone.map_max, Real.sqrt_mul_self he.le]
    have hpos : (0 : ℝ) < max (Real.sqrt s) e := lt_max_of_lt_right he
    rw [← EReal.coe_strictMono.monotone.map_max, Ideal.rsqrt_coe, if_neg (not_lt.mpr hmax.le), if_neg hmax.ne', hroot,
      Ideal.sqrt_coe, if_neg (not_lt.mpr hs'), ← EReal.coe_strictMono.monotone.map_max, Ideal.div,
      if_neg (by exact_mod_cast hpos.ne'), EReal.coe_inv]

/-- The kernel's normalised row is the reference's. -/
theorem scaledRow_eq (x : Fin 128 → EReal) : scaledRow x = unitRow x :=
  funext fun k => mul_rsqrt_eq_div (x k) (Finset.sum_nonneg fun l _ => mul_self_nonneg (x l)) eps_pos

/-- Every entry of the normalised row is a real number, whatever the row holds: an infinite entry makes the squared
    length infinite, and then every entry is zero. -/
theorem unitRow_real (x : Fin 128 → EReal) (k : Fin 128) : ∃ r : ℝ, unitRow x k = (r : EReal) := by
  have hle : x k * x k ≤ ∑ l, x l * x l :=
    Finset.single_le_sum (f := fun l => x l * x l) (fun l _ => mul_self_nonneg (x l)) (Finset.mem_univ k)
  have hs : 0 ≤ ∑ l, x l * x l := Finset.sum_nonneg fun l _ => mul_self_nonneg (x l)
  rw [← scaledRow_eq]
  unfold scaledRow
  generalize (∑ l, x l * x l) = s at hle hs
  induction s with
  | bot => simp at hs
  | top => exact ⟨0, by simp⟩
  | coe s =>
    obtain ⟨r, hr⟩ := real_of_mul_self_le hle
    have hmax : 0 < max s (eps * eps) := lt_max_of_lt_right (mul_pos eps_pos eps_pos)
    exact ⟨r * (Real.sqrt (max s (eps * eps)))⁻¹, by
      rw [hr, ← EReal.coe_strictMono.monotone.map_max, Ideal.rsqrt_coe, if_neg (not_lt.mpr hmax.le), if_neg hmax.ne',
        EReal.coe_mul]⟩

/-! ## The gates' arguments -/

/-- Two numbers are not opposite infinities. -/
def Compatible (a b : EReal) : Prop := (a ≠ ⊥ ∨ b ≠ ⊤) ∧ (a ≠ ⊤ ∨ b ≠ ⊥)

/-- A real factor distributes over a sum whose terms are not opposite infinities. -/
theorem real_mul_add (r : ℝ) {a b : EReal} (h : Compatible a b) : (r : EReal) * (a + b) = r * a + r * b := by
  rcases le_or_gt 0 r with hr | hr
  · exact EReal.left_distrib_of_nonneg_of_ne_top (by exact_mod_cast hr) (EReal.coe_ne_top r) a b
  · have e : (r : EReal) = -((-r : ℝ) : EReal) := by rw [EReal.coe_neg, neg_neg]
    have hn : (0 : EReal) ≤ ((-r : ℝ) : EReal) := by exact_mod_cast (neg_pos.mpr hr).le
    have key : ∀ c : EReal, c ≠ ⊤ → ((-r : ℝ) : EReal) * c ≠ ⊤ := by
      intro c hc
      induction c with
      | bot => rw [EReal.coe_mul_bot_of_pos (neg_pos.mpr hr)]; simp
      | top => exact absurd rfl hc
      | coe c => rw [← EReal.coe_mul]; exact EReal.coe_ne_top _
    have key' : ∀ c : EReal, c ≠ ⊥ → ((-r : ℝ) : EReal) * c ≠ ⊥ := by
      intro c hc
      induction c with
      | bot => exact absurd rfl hc
      | top => rw [EReal.coe_mul_top_of_pos (neg_pos.mpr hr)]; simp
      | coe c => rw [← EReal.coe_mul]; exact EReal.coe_ne_bot _
    rw [e, EReal.neg_mul, EReal.neg_mul, EReal.neg_mul,
      EReal.left_distrib_of_nonneg_of_ne_top hn (EReal.coe_ne_top _) a b,
      EReal.neg_add (h.1.imp (key' a) (key b)) (h.2.imp (key a) (key' b)), sub_eq_add_neg]

/-- One half distributes over any sum. -/
theorem half_mul_add (a b : EReal) :
    ((1 / 2 : ℝ) : EReal) * (a + b) = ((1 / 2 : ℝ) : EReal) * a + ((1 / 2 : ℝ) : EReal) * b :=
  EReal.left_distrib_of_nonneg_of_ne_top (by norm_num) (EReal.coe_ne_top _) a b

/-- One half distributes over any finite family's sum. -/
theorem half_mul_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert i s hi ih => rw [Finset.sum_insert hi, Finset.sum_insert hi, half_mul_add, ih]

/-- A layer over halved sums of weights and biases is half of the sum of the two layers, where the row is real and no
    two weights that are added are opposite infinities. -/
theorem layer_half {h a b : Fin 128 → EReal} (p q : EReal) (hh : ∀ k, ∃ r : ℝ, h k = (r : EReal))
    (hab : ∀ k, Compatible (a k) (b k)) :
    layer h (fun k => half (a k) (b k)) (half p q) = half (layer h a p) (layer h b q) := by
  have term : ∀ k, h k * half (a k) (b k) = ((1 / 2 : ℝ) : EReal) * (h k * a k + h k * b k) := by
    intro k
    obtain ⟨r, hr⟩ := hh k
    rw [half, hr, ← real_mul_add r (hab k), mul_left_comm]
  unfold layer
  rw [Finset.sum_congr rfl fun k _ => term k, ← half_mul_sum, Finset.sum_add_distrib]
  unfold half
  rw [← half_mul_add, add_add_add_comm]

/-! ## The gates and the mix -/

/-- The logistic function through the hyperbolic tangent of half the argument, at the infinities too. -/
theorem halfTanh_eq (a : EReal) : halfTanh (((1 / 2 : ℝ) : EReal) * a) = sigma a := by
  unfold halfTanh sigma
  induction a with
  | bot =>
    rw [EReal.coe_mul_bot_of_pos (by norm_num), Ideal.tanh_bot, EReal.neg_bot, Ideal.exp_top,
      show (1 : EReal) + ⊤ = ⊤ from EReal.add_top_of_ne_bot (EReal.coe_ne_bot 1),
      show (1 : EReal) + -1 = 0 by rw [← EReal.coe_one, ← EReal.coe_neg, ← EReal.coe_add]; norm_num]
    simp [Ideal.div]
  | top =>
    rw [EReal.coe_mul_top_of_pos (by norm_num), Ideal.tanh_top, EReal.neg_top, Ideal.exp_bot, add_zero, Ideal.div,
      if_neg one_ne_zero, inv_one, mul_one, ← EReal.coe_one, ← EReal.coe_add, ← EReal.coe_mul]
    norm_num
  | coe r =>
    have hpos : (0 : ℝ) < 1 + Real.exp (-r) := by positivity
    rw [← EReal.coe_mul, Ideal.tanh_coe, ← EReal.coe_neg, Ideal.exp_coe, ← EReal.coe_one, ← EReal.coe_add, ← EReal.coe_mul,
      ← EReal.coe_add, Ideal.div, if_neg (by exact_mod_cast hpos.ne'), ← EReal.coe_inv, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have h1 := Real.exp_pos (1 / 2 * r)
    have h2 := Real.exp_pos (-(1 / 2 * r))
    rw [e1]
    generalize Real.exp (1 / 2 * r) = u at e2 h1
    generalize Real.exp (-(1 / 2 * r)) = v at e2 h2
    field_simp
    linear_combination 2 * v * e2

/-- The hyperbolic tangent is a real number, at the infinities too. -/
theorem tanh_real (a : EReal) : ∃ r : ℝ, Ideal.tanh a = (r : EReal) := by
  induction a with
  | bot => exact ⟨-1, by simp⟩
  | top => exact ⟨1, by simp⟩
  | coe r => exact ⟨Real.tanh r, rfl⟩

/-- So is the kernel's spelling of the logistic function. -/
theorem halfTanh_real (a : EReal) : ∃ r : ℝ, halfTanh a = (r : EReal) := by
  obtain ⟨t, ht⟩ := tanh_real a
  exact ⟨1 / 2 * (1 + t), by rw [halfTanh, ht, EReal.coe_mul, EReal.coe_add, EReal.coe_one]⟩

/-- Moving from `c` towards `h` by the fraction `z` is the mix of the two with weights `1 − z` and `z`. -/
theorem mix_eq {c z h : EReal} (hc : ∃ r : ℝ, c = (r : EReal)) (hz : ∃ r : ℝ, z = (r : EReal)) (hh : ∃ r : ℝ, h = (r : EReal)) :
    c + z * (h - c) = (1 - z) * c + z * h := by
  obtain ⟨c, rfl⟩ := hc
  obtain ⟨z, rfl⟩ := hz
  obtain ⟨h, rfl⟩ := hh
  norm_cast
  ring

/-! ## The equation -/

/-- ONE ELEMENT OF THE RESULT: the kernel's is the reference's, where no two weights that the kernel adds (the rows of
    the two gates, below 256) are opposite infinities. -/
theorem fusedCell_eq (x : Fin 128 → EReal) (W U : Fin 384 → Fin 128 → EReal) (p q : Fin 384 → EReal) (d : Fin 128)
    (hWU : ∀ n : Fin 384, n.val < 256 → ∀ k, Compatible (W n k) (U n k)) :
    fusedCell x W U p q d = gruCell x W U p q d := by
  have hr := layer_half (p (rowR d)) (q (rowR d)) (unitRow_real x) (hWU (rowR d) (by show d.val < 256; omega))
  have hz := layer_half (p (rowZ d)) (q (rowZ d)) (unitRow_real x) (hWU (rowZ d) (by show 128 + d.val < 256; omega))
  unfold fusedCell fusedStep gruCell
  rw [scaledRow_eq, mix_eq (tanh_real _) (halfTanh_real _) (unitRow_real x d), hr, hz]
  unfold half
  rw [halfTanh_eq, halfTanh_eq]

end Cert.Algebra

end
-- ==== Proof.KernelBlock.lean ====
/- What the kernel's body computes at one grid point, at one element of the block, as `Cert.Algebra.fusedCell` of the
   row of the block and of the weights and biases: first what the scratch for the fused weights and the one for the
   fused biases hold once their stores are done, then the last payload over them. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Algebra

@[expose] public section

set_option maxRecDepth 16384

noncomputable section

namespace Cert.KernelBlock

open Idealize.ShloMosaic Cert.KernelIdeal Cert.KernelIdeal.Gen Cert.Algebra Cert.Consts

/-! ## The scratch: fused weights and fused biases -/

/-- The fused weights, 128 by 512: columns below 256 hold the halved sums of the two gates' weights, the next 128 the
    candidate's input weights, the last 128 the candidate's hidden weights. -/
def fusedWeights (W U : Vec Ideal S384x128 .f32) : Vec Ideal S128x512 .f32 := fun y =>
  have : (y 1).val < 512 := (y 1).isLt
  if h : (y 1).val < 256 then half (W (ix2 ⟨(y 1).val, by omega⟩ (y 0))) (U (ix2 ⟨(y 1).val, by omega⟩ (y 0)))
  else if h' : (y 1).val < 384 then W (ix2 ⟨(y 1).val, by omega⟩ (y 0))
  else U (ix2 ⟨(y 1).val - 128, by omega⟩ (y 0))

/-- The fused biases, 1 by 512, in the same four parts. -/
def fusedBiases (p q : Vec Ideal S384 .f32) : Vec Ideal S1x512 .f32 := fun y =>
  have : (y 1).val < 512 := (y 1).isLt
  if h : (y 1).val < 256 then half (p (ix1 ⟨(y 1).val, by omega⟩)) (q (ix1 ⟨(y 1).val, by omega⟩))
  else if h' : (y 1).val < 384 then p (ix1 ⟨(y 1).val, by omega⟩)
  else q (ix1 ⟨(y 1).val - 128, by omega⟩)

/-- The three stores into the weight scratch, the last one first. -/
abbrev weightStores (W U : Vec Ideal S384x128 .f32) : List (View.Piece (Elt Ideal) S128x512 .f32) :=
  [⟨Rect.unit ![0, 384] ![128, 128] inb_S128x512_S128x128_0_384, k0_pay6 (F := Ideal) U⟩,
    ⟨Rect.unit ![0, 256] ![128, 128] inb_S128x512_S128x128_0_256, k0_pay5 (F := Ideal) W⟩,
    ⟨Rect.unit ![0, 0] ![128, 256] inb_S128x512_S128x256_0_0, k0_pay4 (F := Ideal) W U⟩]

/-- The three stores into the bias scratch, the last one first. -/
abbrev biasStores (p q : Vec Ideal S384 .f32) : List (View.Piece (Elt Ideal) S1x512 .f32) :=
  [⟨Rect.unit ![0, 384] ![1, 128] inb_S1x512_S1x128_0_384, k0_pay1 (F := Ideal) (k0_pay8 (F := Ideal) q)⟩,
    ⟨Rect.unit ![0, 256] ![1, 128] inb_S1x512_S1x128_0_256, k0_pay10 (F := Ideal) p⟩,
    ⟨Rect.unit ![0, 0] ![1, 256] inb_S1x512_S1x256_0_0, k0_pay9 (F := Ideal) p q⟩]

/-- Three stores of columns 0 to 255, 256 to 383 and 384 to 511 reach every element of an array of 512 columns. -/
theorem columns_cover {R : Nat} (i₀ : ∀ a, (![0, 0] : Fin 2 → Nat) a + (![R, 256] : Fin 2 → Nat) a ≤ (![R, 512] : Fin 2 → Nat) a)
    (i₁ : ∀ a, (![0, 256] : Fin 2 → Nat) a + (![R, 128] : Fin 2 → Nat) a ≤ (![R, 512] : Fin 2 → Nat) a)
    (i₂ : ∀ a, (![0, 384] : Fin 2 → Nat) a + (![R, 128] : Fin 2 → Nat) a ≤ (![R, 512] : Fin 2 → Nat) a)
    (P₀ : (⟨2, ![R, 256]⟩ : Shape).Idx → Elt Ideal .f32) (P₁ P₂ : (⟨2, ![R, 128]⟩ : Shape).Idx → Elt Ideal .f32)
    (y : (⟨2, ![R, 512]⟩ : Shape).Idx) :
    ∃ s ∈ ([⟨Rect.unit ![0, 384] ![R, 128] i₂, P₂⟩, ⟨Rect.unit ![0, 256] ![R, 128] i₁, P₁⟩, ⟨Rect.unit ![0, 0] ![R, 256] i₀, P₀⟩] :
      List (View.Piece (Elt Ideal) (⟨2, ![R, 512]⟩ : Shape) .f32)), y ∈ s.1.set := by
  have h0 : (y 0).val < R := (y 0).isLt
  have h1 : (y 1).val < 512 := (y 1).isLt
  by_cases ha : (y 1).val < 256
  · refine ⟨_, .tail _ (.tail _ (.head _)), (Rect.mem_set_unit (inb := i₀)).mpr fun a => ?_⟩
    match a with
    | ⟨0, _⟩ => exact ⟨Nat.zero_le _, by show (y 0).val < 0 + R; omega⟩
    | ⟨1, _⟩ => exact ⟨Nat.zero_le _, by show (y 1).val < 0 + 256; omega⟩
  by_cases hb : (y 1).val < 384
  · refine ⟨_, .tail _ (.head _), (Rect.mem_set_unit (inb := i₁)).mpr fun a => ?_⟩
    match a with
    | ⟨0, _⟩ => exact ⟨Nat.zero_le _, by show (y 0).val < 0 + R; omega⟩
    | ⟨1, _⟩ => exact ⟨by show 256 ≤ (y 1).val; omega, by show (y 1).val < 256 + 128; omega⟩
  · refine ⟨_, .head _, (Rect.mem_set_unit (inb := i₂)).mpr fun a => ?_⟩
    match a with
    | ⟨0, _⟩ => exact ⟨Nat.zero_le _, by show (y 0).val < 0 + R; omega⟩
    | ⟨1, _⟩ => exact ⟨by show 384 ≤ (y 1).val; omega, by show (y 1).val < 384 + 128; omega⟩

/-- After its stores the weight scratch holds the fused weights. -/
theorem weightStores_canon (W U : Vec Ideal S384x128 .f32) : View.canon (weightStores W U) = fusedWeights W U := by
  funext y
  canon_tiles x h using columns_cover _ _ _ _ _ _ y
  · pointwise [k0_pay6]
    rw [fusedWeights, dif_neg (by omega), dif_neg (by omega)]
    blk_ext
  · pointwise [k0_pay5]
    rw [fusedWeights, dif_neg (by omega), dif_pos (by omega)]
    blk_ext
  · pointwise [k0_pay4]
    rw [fusedWeights, dif_pos (by omega), half, ofBits_half]
    congr 2 <;> blk_ext

/-- After its stores the bias scratch holds the fused biases. -/
theorem biasStores_canon (p q : Vec Ideal S384 .f32) : View.canon (biasStores p q) = fusedBiases p q := by
  funext y
  canon_tiles x h using columns_cover _ _ _ _ _ _ y
  · pointwise [k0_pay1, k0_pay8]
    rw [fusedBiases, dif_neg (by omega), dif_neg (by omega)]
    blk_ext
  · pointwise [k0_pay10, k0_pay7]
    rw [fusedBiases, dif_neg (by omega), dif_pos (by omega)]
    blk_ext
  · pointwise [k0_pay9, k0_pay7, k0_pay8]
    rw [fusedBiases, dif_pos (by omega), half, ofBits_half]
    congr 2 <;> blk_ext

/-! ## The fused weights and biases, column by column -/

section Columns

variable (W U : Vec Ideal S384x128 .f32) (p q : Vec Ideal S384 .f32) (k d : Fin 128)

/-- A reset-gate column of the fused weights. -/
theorem fusedWeights_r : fusedWeights W U (ix2 k ⟨d.val, by omega⟩) = half (W (ix2 (rowR d) k)) (U (ix2 (rowR d) k)) :=
  dif_pos (show d.val < 256 by omega)

/-- An update-gate column of the fused weights. -/
theorem fusedWeights_z : fusedWeights W U (ix2 k ⟨128 + d.val, by omega⟩) = half (W (ix2 (rowZ d) k)) (U (ix2 (rowZ d) k)) :=
  dif_pos (show 128 + d.val < 256 by omega)

/-- An input column of the candidate. -/
theorem fusedWeights_n : fusedWeights W U (ix2 k ⟨256 + d.val, by omega⟩) = W (ix2 (rowN d) k) :=
  (dif_neg (show ¬256 + d.val < 256 by omega)).trans (dif_pos (show 256 + d.val < 384 by omega))

/-- A hidden column of the candidate. -/
theorem fusedWeights_h : fusedWeights W U (ix2 k ⟨384 + d.val, by omega⟩) = U (ix2 (rowN d) k) :=
  ((dif_neg (show ¬384 + d.val < 256 by omega)).trans (dif_neg (show ¬384 + d.val < 384 by omega))).trans
    (congrArg (fun n : Fin 384 => U (ix2 n k)) (Fin.ext (show 384 + d.val - 128 = 256 + d.val by omega)))

/-- A reset-gate entry of the fused biases. -/
theorem fusedBiases_r : fusedBiases p q (ix2 0 ⟨d.val, by omega⟩) = half (p (ix1 (rowR d))) (q (ix1 (rowR d))) :=
  dif_pos (show d.val < 256 by omega)

/-- An update-gate entry of the fused biases. -/
theorem fusedBiases_z : fusedBiases p q (ix2 0 ⟨128 + d.val, by omega⟩) = half (p (ix1 (rowZ d))) (q (ix1 (rowZ d))) :=
  dif_pos (show 128 + d.val < 256 by omega)

/-- An input entry of the candidate. -/
theorem fusedBiases_n : fusedBiases p q (ix2 0 ⟨256 + d.val, by omega⟩) = p (ix1 (rowN d)) :=
  (dif_neg (show ¬256 + d.val < 256 by omega)).trans (dif_pos (show 256 + d.val < 384 by omega))

/-- A hidden entry of the candidate. -/
theorem fusedBiases_h : fusedBiases p q (ix2 0 ⟨384 + d.val, by omega⟩) = q (ix1 (rowN d)) :=
  ((dif_neg (show ¬384 + d.val < 256 by omega)).trans (dif_neg (show ¬384 + d.val < 384 by omega))).trans
    (congrArg (fun n : Fin 384 => q (ix1 n)) (Fin.ext (show 384 + d.val - 128 = 256 + d.val by omega)))

end Columns

/-! ## The last payload -/

/-- The named constant of the kernel is the square of the cutoff. -/
theorem named_epsSq (b : BitVec (FTy.f32).bits) : Named.named (F := Ideal) (φ := .f32) κ "eps_sq" b = ((eps * eps : ℝ) : EReal) := by
  rw [← epsSq_eq]
  exact IdealRules.named_const.ideal_named_scalar κ "eps_sq" b _ rfl

/-- THE BLOCK: the payload over a block of rows, the matrix of ones, the fused weights and the fused biases is, element by
    element, the fused step on that row. -/
theorem block_apply (x : Vec Ideal S5000x128 .f32) (W U : Vec Ideal S384x128 .f32) (p q : Vec Ideal S384 .f32)
    (r : Fin 5000) (d : Fin 128) :
    k0_pay3 (F := Ideal) x (k0_pay2 (F := Ideal)) (fusedWeights W U) (fusedBiases p q) (ix2 r d)
      = fusedCell (fun k => x (ix2 r k)) (fun n k => W (ix2 n k)) (fun n k => U (ix2 n k)) (fun n => p (ix1 n))
          (fun n => q (ix1 n)) d := by
  pointwise [k0_pay3, k0_pay2]
  simp only [named_epsSq, ofBits_half, fusedWeights_r, fusedWeights_z, fusedWeights_n, fusedWeights_h, fusedBiases_r,
    fusedBiases_z, fusedBiases_n, fusedBiases_h]
  rfl

end Cert.KernelBlock

end
-- ==== Proof.KernelValue.lean ====
/- What the kernel's result array holds after the run: at every element, `Cert.Algebra.fusedCell` of the embedding's row
   and of the entity weights and biases. From what each grid point leaves in its buffers to the whole array. -/
module

public import proofs.«01_k».proof.Proof.KernelBlock

@[expose] public section

set_option maxRecDepth 16384

noncomputable section

namespace Cert.KernelValue

open Idealize.ShloMosaic Idealize.SL.Sem Cert.KernelIdeal Cert.KernelIdeal.Gen Cert.Algebra Cert.KernelBlock

variable (m : (ℓ : Loc nD τ sig) → Buf (Elt Ideal) ℓ)

/-! ## The scratch after the first point -/

/-- The first point leaves the fused weights in the weight scratch. -/
theorem weights_first (c : Dev nD) (t : Fin cfg0.N) (h : t.val % 2 = 0) :
    (outsAt0 (F := Ideal) m c t.val t.isLt).2.1 = fusedWeights (iblk m c 1 t) (iblk m c 2 t) := by
  rw [outsAt0_A m c t h]
  frame_out
  exact weightStores_canon _ _

/-- The first point leaves the fused biases in the bias scratch. -/
theorem biases_first (c : Dev nD) (t : Fin cfg0.N) (h : t.val % 2 = 0) :
    (outsAt0 (F := Ideal) m c t.val t.isLt).2.2.1 = fusedBiases (iblk m c 3 t) (iblk m c 4 t) := by
  rw [outsAt0_A m c t h]
  frame_out
  exact biasStores_canon _ _

/-- The first point leaves the matrix of ones in the third scratch. -/
theorem ones_first (c : Dev nD) (t : Fin cfg0.N) (h : t.val % 2 = 0) :
    (outsAt0 (F := Ideal) m c t.val t.isLt).2.2.2 = k0_pay2 (F := Ideal) := by
  rw [outsAt0_A m c t h]
  frame_out

/-! ## The blocks that the launch hands to a point -/

/-- Where each window's block stands at a point: the embedding's rows move by 5000, the weights and the biases stay. -/
theorem blocks_at : ∀ t : Fin cfg0.N, win0_0.index t = ![t.val, 0] ∧ win0_1.index t = ![0, 0] ∧ win0_2.index t = ![0, 0]
    ∧ win0_3.index t = ![0] ∧ win0_4.index t = ![0] ∧ win0_5.index t = ![t.val, 0] := by decide +kernel

/-- The embedding's rows, as an array. -/
abbrev rows (c : Dev nD) : Vec Ideal S10000x128 .f32 := m (c.tc.loc main_arg0)
/-- The input weights, as an array. -/
abbrev wIn (c : Dev nD) : Vec Ideal S384x128 .f32 := m (c.tc.loc main_arg6)
/-- The hidden weights, as an array. -/
abbrev wHid (c : Dev nD) : Vec Ideal S384x128 .f32 := m (c.tc.loc main_arg7)
/-- The input biases, as an array. -/
abbrev bIn (c : Dev nD) : Vec Ideal S384 .f32 := m (c.tc.loc main_arg8)
/-- The hidden biases, as an array. -/
abbrev bHid (c : Dev nD) : Vec Ideal S384 .f32 := m (c.tc.loc main_arg9)

/-- A point's block of input weights is the whole matrix. -/
theorem iblk_wIn (c : Dev nD) (t : Fin cfg0.N) : (iblk m c 1 t : Vec Ideal S384x128 .f32) = wIn m c := by
  have h := (blocks_at t).2.1
  funext j
  blk_ext [iblk, V, h]

/-- A point's block of hidden weights is the whole matrix. -/
theorem iblk_wHid (c : Dev nD) (t : Fin cfg0.N) : (iblk m c 2 t : Vec Ideal S384x128 .f32) = wHid m c := by
  have h := (blocks_at t).2.2.1
  funext j
  blk_ext [iblk, V, h]

/-- A point's block of input biases is the whole vector. -/
theorem iblk_bIn (c : Dev nD) (t : Fin cfg0.N) : (iblk m c 3 t : Vec Ideal S384 .f32) = bIn m c := by
  have h := (blocks_at t).2.2.2.1
  funext j
  blk_ext [iblk, V, h]

/-- A point's block of hidden biases is the whole vector. -/
theorem iblk_bHid (c : Dev nD) (t : Fin cfg0.N) : (iblk m c 4 t : Vec Ideal S384 .f32) = bHid m c := by
  have h := (blocks_at t).2.2.2.2.1
  funext j
  blk_ext [iblk, V, h]

/-- Row `r` of a point's block of rows is the embedding's row `5000 t + r`. -/
theorem iblk_rows (c : Dev nD) (t : Fin cfg0.N) (r : Fin 5000) (k : Fin 128) (R : Fin 10000) (hR : R.val = t.val * 5000 + r.val) :
    (iblk m c 0 t : Vec Ideal S5000x128 .f32) (ix2 r k) = rows m c (ix2 R k) := by
  have h := (blocks_at t).1
  blk_ext [iblk, V, h]

/-! ## What a point leaves in the output's buffer -/

/-- Every point leaves the last payload over its rows, the ones, and the fused weights and biases: the first point over
    what it has just stored, the second over what the first point left. -/
theorem out_eq (c : Dev nD) (t : Fin cfg0.N) :
    (outsAt0 (F := Ideal) m c t.val t.isLt).1 = k0_pay3 (F := Ideal) (iblk m c 0 t) (k0_pay2 (F := Ideal))
      (fusedWeights (wIn m c) (wHid m c)) (fusedBiases (bIn m c) (bHid m c)) := by
  by_cases h : t.val % 2 = 0
  · rw [outsAt0_A m c t h]
    frame_out
    rw [View.readCov_eq_canon_ld _ _ _ (columns_cover _ _ _ _ _ _), View.readCov_eq_canon_ld _ _ _ (columns_cover _ _ _ _ _ _),
      View.ld_unit_lit _ _ (by decide), View.ld_unit_lit _ _ (by decide)]
    rw [← iblk_wIn m c t, ← iblk_wHid m c t, ← iblk_bIn m c t, ← iblk_bHid m c t, ← weightStores_canon, ← biasStores_canon]
  · have ht : t.val = 1 := by have : t.val < 2 := lt_of_lt_of_eq t.isLt N_0; omega
    have h0 : t.val - 1 < cfg0.N := by omega
    have hp : (⟨t.val - 1, h0⟩ : Fin cfg0.N).val % 2 = 0 := by show (t.val - 1) % 2 = 0; omega
    have hw := weights_first m c ⟨t.val - 1, h0⟩ hp
    have hb := biases_first m c ⟨t.val - 1, h0⟩ hp
    have ho := ones_first m c ⟨t.val - 1, h0⟩ hp
    rw [iblk_wIn, iblk_wHid] at hw
    rw [iblk_bIn, iblk_bHid] at hb
    rw [outsAt0_B m c t h]
    frame_out
    simp only [read_unread_whole]
    rw [← hw, ← hb, ← ho]

/-! ## The array -/

/-- Element `(R, d)` of the kernel's result. -/
def result (c : Dev nD) : Vec Ideal S10000x128 .f32 := fun i =>
  fusedCell (fun k => rows m c (ix2 (i 0) k)) (fun n k => wIn m c (ix2 n k)) (fun n k => wHid m c (ix2 n k))
    (fun n => bIn m c (ix1 n)) (fun n => bHid m c (ix1 n)) (i 1)

/-- THE ARRAY after the run: every point writes its block back, and the blocks tile the array. -/
theorem array_eq (c : Dev nD) : (dats m 0 c).arrAt 5 cfg0.N = result m c := by
  refine (dats m 0 c).arrAt_eq_of_covers 5 _ (by decide +kernel) fun t hf y => ?_
  blk_simp
  rw [after0_5, out_eq]
  have hy : ∃ (r : Fin 5000) (d : Fin 128), y = (ix2 r d : S5000x128.Idx) := ⟨y 0, y 1, eq_ix2 (n0 := 5000) (n1 := 128) y⟩
  obtain ⟨r, d, rfl⟩ := hy
  have h := (blocks_at t).2.2.2.2.2
  have hR : t.val * 5000 + r.val < 10000 := by have : t.val < 2 := lt_of_lt_of_eq t.isLt N_0; omega
  have e : (win0_5.blk t).view.emb (ix2 r d : S5000x128.Idx) = (ix2 ⟨t.val * 5000 + r.val, hR⟩ d : S10000x128.Idx) := by
    blk_ext [h]
  rw [e]
  refine (block_apply _ _ _ _ _ r d).trans ?_
  simp only [iblk_rows m c t r _ ⟨t.val * 5000 + r.val, hR⟩ rfl]
  rfl

end Cert.KernelValue

end
-- ==== Proof.ReferenceValue.lean ====
/- What the reference's result holds, element by element: `Cert.Algebra.gruCell` of the embedding's row and of the entity
   weights and biases. -/
module

public import proofs.«01_k».proof.Proof.Gen.ReferenceIdeal.Run
public import Idealize.ShloMosaic.Lib.Pointwise
public import Idealize.ShloMosaic.Lib.Tactic.CleanTypes
public import proofs.«01_k».proof.Proof.Algebra

@[expose] public section

set_option maxRecDepth 16384

noncomputable section

namespace Cert.ReferenceValue

open Idealize.ShloMosaic Idealize.SL.Sem Cert.ReferenceIdeal Cert.Algebra Cert.Consts

variable (m : (ℓ : Loc nD τ sig) → Buf (Elt Ideal) ℓ)

/-- The embedding's rows, as an array. -/
abbrev rows (c : Dev nD) : Vec Ideal S10000x128 .f32 := m (c.tc.loc main_arg0)
/-- The input weights, as an array. -/
abbrev wIn (c : Dev nD) : Vec Ideal S384x128 .f32 := m (c.tc.loc main_arg6)
/-- The hidden weights, as an array. -/
abbrev wHid (c : Dev nD) : Vec Ideal S384x128 .f32 := m (c.tc.loc main_arg7)
/-- The input biases, as an array. -/
abbrev bIn (c : Dev nD) : Vec Ideal S384 .f32 := m (c.tc.loc main_arg8)
/-- The hidden biases, as an array. -/
abbrev bHid (c : Dev nD) : Vec Ideal S384 .f32 := m (c.tc.loc main_arg9)

/-- THE REFERENCE'S RESULT at row `R` and column `d`. -/
theorem result_apply (c : Dev nD) (R : Fin 10000) (d : Fin 128) :
    (Cert.ReferenceIdeal.Value.res_out0 (F := Ideal) m c : Vec Ideal S10000x128 .f32) (ix2 R d)
      = gruCell (fun k => rows m c (ix2 R k)) (fun n k => wIn m c (ix2 n k)) (fun n k => wHid m c (ix2 n k))
          (fun n => bIn m c (ix1 n)) (fun n => bHid m c (ix1 n)) d := by
  unfold Cert.ReferenceIdeal.Value.res_out0 Cert.ReferenceIdeal.Value.res_main_v105
  clean_types
  pointwise
  simp only [ofBits_eps]
  rfl

end Cert.ReferenceValue

end
-- ==== Proof.Precondition.lean ====
/- The precondition read off element by element: of the first 256 rows of the two weight matrices, the two
   entries at one place are never opposite infinities. -/
module

public import proofs.«01_k».proof.Pre_no_opposite_infinities
public import Idealize.ShloMosaic.Lib.Pointwise
public import Idealize.ShloMosaic.Lib.WordCmp
public import proofs.«01_k».proof.Proof.Algebra

@[expose] public section

noncomputable section

namespace Cert.Precondition

open Idealize.ShloMosaic Cert.Pre_no_opposite_infinities Cert.Algebra Cert.Consts

/-- Where the first number's absolute value is below infinity, or the first is not the second's negation, the two are not
    opposite infinities. -/
theorem compatible_of {a b : EReal} (h : max a (-a) < ⊤ ∨ a ≠ -b) : Compatible a b := by
  constructor
  · by_contra hc
    obtain ⟨rfl, rfl⟩ : a = ⊥ ∧ b = ⊤ := by simpa using hc
    simp at h
  · by_contra hc
    obtain ⟨rfl, rfl⟩ : a = ⊤ ∧ b = ⊥ := by simpa using hc
    simp at h

/-- The precondition at row `n`, one of the first 256, and column `k`. -/
theorem entry_compatible [Facts] (a0 : FVec Ideal S10000x128 .f32) (a1 : FVec Ideal S1000x128 .f32)
    (a2 : FVec Ideal S384x256 .f32) (a3 : FVec Ideal S384x128 .f32) (a4 a5 : FVec Ideal S384 .f32)
    (a6 a7 : FVec Ideal S384x128 .f32) (a8 a9 : FVec Ideal S384 .f32) (a10 a11 : IVec S320000 32)
    (h : fn (F := Ideal) a0 a1 a2 a3 a4 a5 a6 a7 a8 a9 a10 a11 = fun _ => 1#1)
    (n : Fin 384) (hn : n.val < 256) (k : Fin 128) :
    Compatible (a6 (ix2 n k)) (a7 (ix2 n k)) := by
  have e := congrFun h (ix2 (⟨n.val, hn⟩ : Fin 256) k : S256x128.Idx)
  unfold fn at e
  pointwise at e
  simp only [ofBits_inf, WordCmp.ori_ofBool, WordCmp.ofBool_eq_one_iff, Bool.or_eq_true, decide_eq_true_eq] at e
  exact compatible_of e

end Cert.Precondition

end
-- ==== Proof.Equation.lean ====
/- The equation of the two programs: on arguments that agree, the array the kernel leaves is the array the reference
   computes, wherever the precondition holds. -/
module

public import proofs.«01_k».proof.Defs
public import proofs.«01_k».proof.Proof.KernelValue
public import proofs.«01_k».proof.Proof.ReferenceValue
public import proofs.«01_k».proof.Proof.Precondition
public import proofs.«01_k».proof.Proof.Gen.Pre_no_opposite_infinities

@[expose] public section

noncomputable section

namespace Cert.Equation

open Idealize.ShloMosaic Idealize.SL.Sem Cert.Algebra

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's array at row `R` and column `d`, under the precondition, is the reference's gated cell. -/
theorem kernel_apply (h : Cert.Pre_KernelIdeal_no_opposite_infinities m) (c : Dev Cert.KernelIdeal.nD) (R : Fin 10000)
    (d : Fin 128) :
    Cert.KernelValue.result m c (ix2 R d)
      = gruCell (fun k => Cert.KernelValue.rows m c (ix2 R k)) (fun n k => Cert.KernelValue.wIn m c (ix2 n k))
          (fun n k => Cert.KernelValue.wHid m c (ix2 n k)) (fun n => Cert.KernelValue.bIn m c (ix1 n))
          (fun n => Cert.KernelValue.bHid m c (ix1 n)) d :=
  fusedCell_eq _ _ _ _ _ d fun n hn k =>
    Cert.Precondition.entry_compatible _ _ _ _ _ _ _ _ _ _ _ _ (h c) n hn k

/-- The two result arrays are equal when the arguments they read agree. -/
theorem results_eq (h : Cert.Pre_KernelIdeal_no_opposite_infinities m) (c : Dev Cert.KernelIdeal.nD)
    (h0 : Cert.ReferenceValue.rows m' c = Cert.KernelValue.rows m c)
    (h6 : Cert.ReferenceValue.wIn m' c = Cert.KernelValue.wIn m c)
    (h7 : Cert.ReferenceValue.wHid m' c = Cert.KernelValue.wHid m c)
    (h8 : Cert.ReferenceValue.bIn m' c = Cert.KernelValue.bIn m c)
    (h9 : Cert.ReferenceValue.bHid m' c = Cert.KernelValue.bHid m c) :
    (Cert.ReferenceIdeal.Value.res_out0 (F := Ideal) m' c : Vec Ideal Cert.ReferenceIdeal.S10000x128 .f32)
      = Cert.KernelValue.result m c := by
  funext i
  obtain ⟨R, d, rfl⟩ : ∃ (R : Fin 10000) (d : Fin 128), i = (ix2 R d : Cert.ReferenceIdeal.S10000x128.Idx) :=
    ⟨i 0, i 1, eq_ix2 (n0 := 10000) (n1 := 128) i⟩
  rw [Cert.ReferenceValue.result_apply m' c R d, h0, h6, h7, h8, h9]
  exact (kernel_apply m h c R d).symm

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_no_opposite_infinities
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end from every memory and leaves its arguments and its counters alone. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant: the squared tolerance is, in the idealized kernel, the real its table gives it. -/
theorem tolerance_named : Cert.preserves_Kernel_KernelIdeal :=
  IdealRules.named_const.statement Cert.KernelIdeal.κ "eps_sq" .f32 _ _ rfl

/-- Under the precondition the idealized kernel and the reference end with equal results. -/
theorem results_agree : Cert.algebraic_KernelIdeal_ReferenceIdeal_pre_no_opposite_infinities := by
  intro m ρ m' ρ' hpre hagree
  refine ⟨fun c => Cert.KernelValue.result m c, ?_, ?_⟩
  · exact (θ_run Cert.KernelIdeal.defs _ _).mono
      (fun _ h c => ⟨(h c).1.trans (Cert.KernelValue.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, -, -, -, -, -, h6, h7, h8, h9, -, -⟩ := hagree c
    exact Cert.Equation.results_eq m m' hpre c h0 h6 h7 h8 h9

/-- Everything the certificate claims. -/
theorem claim : Cert.Claim :=
  ⟨Cert.Kernel.Gen.facts, Cert.KernelIdeal.Gen.facts, Cert.ReferenceIdeal.Gen.facts, Cert.Pre_no_opposite_infinities.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    tolerance_named,
    results_agree⟩

end Cert.Proof

end
